-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "slope" .bf16 0x3C24#16 ((5368709 / 536870912 : ℝ) : EReal)
  ∧ IdealRules.named_const.Statement Cert.KernelIdeal.κ "slope" .f32 0x3C23D70A#32 ((5368709 / 536870912 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128x256 : Shape := ⟨2, ![128, 256]⟩
abbrev S50000x256 : Shape := ⟨2, ![50000, 256]⟩
abbrev S50000 : Shape := ⟨1, ![50000]⟩
abbrev S1x256 : Shape := ⟨2, ![1, 256]⟩
abbrev S1 : Shape := ⟨1, ![1]⟩
abbrev S256x256 : Shape := ⟨2, ![256, 256]⟩
abbrev S256 : Shape := ⟨1, ![256]⟩
abbrev S256x512 : Shape := ⟨2, ![256, 512]⟩
abbrev S256x1 : Shape := ⟨2, ![256, 1]⟩
abbrev S50000x1 : Shape := ⟨2, ![50000, 1]⟩
abbrev S128 : Shape := ⟨1, ![128]⟩
abbrev S1x128 : Shape := ⟨2, ![1, 128]⟩
abbrev S50000x128 : Shape := ⟨2, ![50000, 128]⟩
abbrev S_ : Shape := ⟨0, ![]⟩

class Facts : Prop where
  transposes_S1x256_S256x1_1_0 : S1x256.Transposes [1, 0] S256x1
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S50000 : S_.BroadcastsInDim S50000 (![] : Fin 0 → Fin S50000.rank)
  bcast_S_S50000x1 : S_.BroadcastsInDim S50000x1 (![] : Fin 0 → Fin S50000x1.rank)
  bcast_S_S128 : S_.BroadcastsInDim S128 (![] : Fin 0 → Fin S128.rank)
  bcast_S_S1 : S_.BroadcastsInDim S1 (![] : Fin 0 → Fin S1.rank)
  bcast_S_S256 : S_.BroadcastsInDim S256 (![] : Fin 0 → Fin S256.rank)
  dot_S50000x256_S256x1_S50000x1_1_0_0_1_n_n_wf : DotDims.WF S50000x256 S256x1 S50000x1 [1] [0] [0] [1] [] []

variable [Facts]

def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def fn_where {F : FTy → Type} [FloatOps F] (arg0 : IVec S50000x128 1) (arg1 : FVec F S50000x1 .f32) (arg2 : FVec F S_ .f32) : FVec F S50000x128 .f32 :=
  let v0 : FVec F S_ .f32 := id arg2
  let v1 : FVec F S50000x128 .f32 := broadcastInDim S50000x128 ![0, 1] bcast_S50000x1_S50000x128_0_1 arg1
  let v2 : FVec F S50000x128 .f32 := broadcastInDim S50000x128 ![] bcast_S_S50000x128 v0
  let v3 : FVec F S50000x128 .f32 := select arg0 v1 v2
  v3

def fn_part1 {F : FTy → Type} [FloatOps F] (main_arg4 : FVec F S1 .f32) (main_arg6 : FVec F S256 .f32) (main_arg8 : FVec F S256 .f32) (main_v1 : FVec F S50000x1 .f32) (main_v10 : FVec F S128 .f32) (main_v15 : IVec S50000 1) (main_v17 : IVec S50000x1 1) (main_cst_3 : FVec F S_ .f32) : IVec S50000 1 × IVec S50000x1 1 × IVec S128 1 × IVec S1 1 × IVec S256 1 × IVec S256 1 :=
  let main_v18 : FVec F S50000x1 .f32 := broadcastInDim S50000x1 ![] bcast_S_S50000x1 main_cst_3
  let main_v19 : IVec S50000x1 1 := cmpf .ole main_v1 main_v18
  let main_v20 : IVec S50000x1 1 := andi main_v17 main_v19
  let main_cst_4 : FVec F S_ .f32 := constant S_ .f32 0x24E69595#32
  let main_v21 : FVec F S128 .f32 := broadcastInDim S128 ![] bcast_S_S128 main_cst_4
  let main_v22 : IVec S128 1 := cmpf .oge main_v10 main_v21
  let main_cst_5 : FVec F S_ .f32 := constant S_ .f32 0x00000000#32
  let main_v23 : FVec F S128 .f32 := broadcastInDim S128 ![] bcast_S_S128 main_cst_5
  let main_v24 : IVec S128 1 := cmpf .oeq main_v10 main_v23
  let main_v25 : IVec S128 1 := ori main_v22 main_v24
  let main_v26 : FVec F S1 .f32 := Host.absf main_arg4
  let main_cst_6 : FVec F S_ .f32 := constant S_ .f32 0x7F800000#32
  let main_v27 : FVec F S1 .f32 := broadcastInDim S1 ![] bcast_S_S1 main_cst_6
  let main_v28 : IVec S1 1 := cmpf .olt main_v26 main_v27
  let main_cst_7 : FVec F S_ .f32 := constant S_ .f32 0x00000000#32
  let main_v29 : FVec F S256 .f32 := broadcastInDim S256 ![] bcast_S_S256 main_cst_7
  let main_v30 : IVec S256 1 := cmpf .oeq main_arg6 main_v29
  let main_cst_8 : FVec F S_ .f32 := constant S_ .f32 0x00000000#32
  let main_v31 : FVec F S256 .f32 := broadcastInDim S256 ![] bcast_S_S256 main_cst_8
  let main_v32 : IVec S256 1 := cmpf .oeq main_arg8 main_v31
  (main_v15, main_v20, main_v25, main_v28, main_v30, main_v32)

def fn {F : FTy → Type} [FloatOps F] (main_arg0 : FVec F S128x256 .f32) (main_arg1 : FVec F S50000x256 .f32) (main_arg2 : IVec S50000 32) (main_arg3 : FVec F S1x256 .f32) (main_arg4 : FVec F S1 .f32) (main_arg5 : FVec F S256x256 .f32) (main_arg6 : FVec F S256 .f32) (main_arg7 : FVec F S256x512 .f32) (main_arg8 : FVec F S256 .f32) : IVec S50000 1 × IVec S50000x1 1 × IVec S128 1 × IVec S1 1 × IVec S256 1 × IVec S256 1 :=
  let main_v0 : FVec F S256x1 .f32 := (transpose S256x1 [1, 0] · transposes_S1x256_S256x1_1_0) main_arg3
  let main_v1 : FVec F S50000x1 .f32 := (fun l r => Host.dotGeneral dot_S50000x256_S256x1_S50000x1_1_0_0_1_n_n none l r) main_arg1 main_v0
  let main_v2 : IVec S50000x1 32 := broadcastInDim S50000x1 ![0] bcast_S50000_S50000x1_0 main_arg2
  let main_v3 : IVec S128 32 := iotaInDim S128 32 0
  let main_v4 : IVec S1x128 32 := broadcastInDim S1x128 ![1] bcast_S128_S1x128_1 main_v3
  let main_v5 : IVec S50000x128 32 := broadcastInDim S50000x128 ![0, 1] bcast_S50000x1_S50000x128_0_1 main_v2
  let main_v6 : IVec S50000x128 32 := broadcastInDim S50000x128 ![0, 1] bcast_S1x128_S50000x128_0_1 main_v4
  let main_v7 : IVec S50000x128 1 := cmpi .eq main_v5 main_v6
  let main_v8 : FVec F S50000x1 .f32 := Host.exp main_v1
  let main_cst : FVec F S_ .f32 := constant S_ .f32 0x00000000#32
  let main_v9 : FVec F S50000x128 .f32 := fn_where (F := F) main_v7 main_v8 main_cst
  let main_cst_0 : FVec F S_ .f32 := constant S_ .f32 0x00000000#32
  let main_v10 : FVec F S128 .f32 := (fun x v => Host.reduceAdd x v reducesTo_S50000x128_S128_d0 h_S_) main_v9 main_cst_0
  let main_c : IVec S_ 32 := constantI S_ 32 0#32
  let main_v11 : IVec S50000 32 := broadcastInDim S50000 ![] bcast_S_S50000 main_c
  let main_v12 : IVec S50000 1 := cmpi .sge main_arg2 main_v11
  let main_c_1 : IVec S_ 32 := constantI S_ 32 128#32
  let main_v13 : IVec S50000 32 := broadcastInDim S50000 ![] bcast_S_S50000 main_c_1
  let main_v14 : IVec S50000 1 := cmpi .slt main_arg2 main_v13
  let main_v15 : IVec S50000 1 := andi main_v12 main_v14
  let main_cst_2 : FVec F S_ .f32 := constant S_ .f32 0xC2700000#32
  let main_v16 : FVec F S50000x1 .f32 := broadcastInDim S50000x1 ![] bcast_S_S50000x1 main_cst_2
  let main_v17 : IVec S50000x1 1 := cmpf .oge main_v1 main_v16
  let main_cst_3 : FVec F S_ .f32 := constant S_ .f32 0x42700000#32
  fn_part1 (F := F) main_arg4 main_arg6 main_arg8 main_v1 main_v10 main_v15 main_v17 main_cst_3
-- ==== Kernel.lean ====
abbrev S128x256 : Shape := ⟨2, ![128, 256]⟩
abbrev S50000x256 : Shape := ⟨2, ![50000, 256]⟩
abbrev S50000 : Shape := ⟨1, ![50000]⟩
abbrev S1x256 : Shape := ⟨2, ![1, 256]⟩
abbrev S1 : Shape := ⟨1, ![1]⟩
abbrev S256x256 : Shape := ⟨2, ![256, 256]⟩
abbrev S256 : Shape := ⟨1, ![256]⟩
abbrev S256x512 : Shape := ⟨2, ![256, 512]⟩
abbrev S10x1x5000 : Shape := ⟨3, ![10, 1, 5000]⟩
abbrev S256x1 : Shape := ⟨2, ![256, 1]⟩
abbrev S5000x256 : Shape := ⟨2, ![5000, 256]⟩
abbrev S1x1x5000 : Shape := ⟨3, ![1, 1, 5000]⟩
abbrev S128x1 : Shape := ⟨2, ![128, 1]⟩
abbrev S1x5000 : Shape := ⟨2, ![1, 5000]⟩
abbrev S128x5000 : Shape := ⟨2, ![128, 5000]⟩
abbrev S5000x1 : Shape := ⟨2, ![5000, 1]⟩

abbrev nBuf : Space → Nat
  | .hbm => 19
  | .vmem => 12
  | .smem => 0
  | _ => 0

abbrev bufTy : (tb : Table) → Fin (tcTables nBuf tb) → BufTy
  | .hbm, ⟨0, _⟩ => ⟨S128x256, .f32⟩
  | .hbm, ⟨1, _⟩ => ⟨S50000x256, .f32⟩
  | .hbm, ⟨2, _⟩ => ⟨S50000, .i32⟩
  | .hbm, ⟨3, _⟩ => ⟨S1x256, .f32⟩
  | .hbm, ⟨4, _⟩ => ⟨S1, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S10x1x5000, .i32⟩
  | .hbm, ⟨10, _⟩ => ⟨S256x1, .f32⟩
  | .hbm, ⟨11, _⟩ => ⟨S256x1, .bf16⟩
  | .hbm, ⟨12, _⟩ => ⟨S256x256, .f32⟩
  | .hbm, ⟨13, _⟩ => ⟨S256x256, .bf16⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S128x256, .f32⟩
  | .local _ .vmem, ⟨0, _⟩ => ⟨S5000x256, .f32⟩
  | .local _ .vmem, ⟨1, _⟩ => ⟨S5000x256, .f32⟩
  | .local _ .vmem, ⟨2, _⟩ => ⟨S1x1x5000, .i32⟩
  | .local _ .vmem, ⟨3, _⟩ => ⟨S1x1x5000, .i32⟩
  | .local _ .vmem, ⟨4, _⟩ => ⟨S256x1, .bf16⟩
  | .local _ .vmem, ⟨5, _⟩ => ⟨S256x256, .bf16⟩
  | .local _ .vmem, ⟨6, _⟩ => ⟨S256x256, .f32⟩
  | .local _ .vmem, ⟨7, _⟩ => ⟨S256x256, .f32⟩
  | .local _ .vmem, ⟨8, _⟩ => ⟨S128x256, .f32⟩
  | .local _ .vmem, ⟨9, _⟩ => ⟨S128x256, .f32⟩
  | .local _ .vmem, ⟨10, _⟩ => ⟨S128x1, .f32⟩
  | .local _ .vmem, ⟨11, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v45 : BitVec 1 := Scalar.cmpi .eq arg0 c9_i32
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "slope" => some ((5368709 / 536870912 : ℝ) : EReal)
  | _ => none
-- ==== ReferenceIdeal.lean ====
abbrev S128x256 : Shape := ⟨2, ![128, 256]⟩
abbrev S50000x256 : Shape := ⟨2, ![50000, 256]⟩
abbrev S50000 : Shape := ⟨1, ![50000]⟩
abbrev S1x256 : Shape := ⟨2, ![1, 256]⟩
abbrev S1 : Shape := ⟨1, ![1]⟩
abbrev S256x256 : Shape := ⟨2, ![256, 256]⟩
abbrev S256 : Shape := ⟨1, ![256]⟩
abbrev S256x512 : Shape := ⟨2, ![256, 512]⟩
abbrev S256x1 : Shape := ⟨2, ![256, 1]⟩
abbrev S50000x1 : Shape := ⟨2, ![50000, 1]⟩
abbrev S1x1 : Shape := ⟨2, ![1, 1]⟩
abbrev S_ : Shape := ⟨0, ![]⟩
abbrev S128 : Shape := ⟨1, ![128]⟩
abbrev S1x128 : Shape := ⟨2, ![1, 128]⟩
abbrev S50000x128 : Shape := ⟨2, ![50000, 128]⟩
abbrev S128x1 : Shape := ⟨2, ![128, 1]⟩
abbrev S128x512 : Shape := ⟨2, ![128, 512]⟩
abbrev S512x256 : Shape := ⟨2, ![512, 256]⟩

abbrev nBuf : Space → Nat
  | .hbm => 96
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S50000x256, .f32⟩
  | .hbm, ⟨2, _⟩ => ⟨S50000, .i32⟩
  | .hbm, ⟨3, _⟩ => ⟨S1x256, .f32⟩
  | .hbm, ⟨4, _⟩ => ⟨S1, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x1, .f32⟩
  | .hbm, ⟨10, _⟩ => ⟨S50000x1, .f32⟩
  | .hbm, ⟨11, _⟩ => ⟨S1x1, .f32⟩
  | .hbm, ⟨12, _⟩ => ⟨S50000x1, .f32⟩
  | .hbm, ⟨13, _⟩ => ⟨S50000x1, .f32⟩
  | .hbm, ⟨14, _⟩ => ⟨S256x256, .f32⟩
  | .hbm, ⟨15, _⟩ => ⟨S50000x256, .f32⟩
  | .hbm, ⟨16, _⟩ => ⟨S1x256, .f32⟩
  | .hbm, ⟨17, _⟩ => ⟨S50000x256, .f32⟩
  | .hbm, ⟨18, _⟩ => ⟨S50000x256, .f32⟩
  | .hbm, ⟨19, _⟩ => ⟨S_, .f32⟩
  | .hbm, ⟨20, _⟩ => ⟨S50000x256, .f32⟩
  | .hbm, ⟨21, _⟩ => ⟨S50000x256, .i1⟩
  | .hbm, ⟨22, _⟩ => ⟨S_, .f32⟩
  | .hbm, ⟨23, _⟩ => ⟨S50000x256, .f32⟩
  | .hbm, ⟨24, _⟩ => ⟨S50000x256, .f32⟩
  | .hbm, ⟨25, _⟩ => ⟨S50000x256, .f32⟩
  | .hbm, ⟨26, _⟩ => ⟨S50000x1, .i32⟩
  | .hbm, ⟨27, _⟩ => ⟨S128, .i32⟩
  | .hbm, ⟨28, _⟩ => ⟨S1x128, .i32⟩
  | .hbm, ⟨29, _⟩ => ⟨S50000x128, .i32⟩
  | .hbm, ⟨30, _⟩ => ⟨S50000x128, .i32⟩
  | .hbm, ⟨31, _⟩ => ⟨S50000x128, .i1⟩
  | .hbm, ⟨32, _⟩ => ⟨S_, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S128x1, .f32⟩
  | .hbm, ⟨41, _⟩ => ⟨S_, .f32⟩
  | .hbm, ⟨42, _⟩ => ⟨S128x1, .f32⟩
  | .hbm, ⟨43, _⟩ => ⟨S128x1, .i1⟩
  | .hbm, ⟨44, _⟩ => ⟨S_, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S_, .i32⟩
  | .hbm, ⟨49, _⟩ => ⟨S50000, .i32⟩
  | .hbm, ⟨50, _⟩ => ⟨S50000, .i1⟩
  | .hbm, ⟨51, _⟩ => ⟨S_, .i32⟩
  | .hbm, ⟨52, _⟩ => ⟨S50000, .i32⟩
  | .hbm, ⟨53, _⟩ => ⟨S50000, .i32⟩
  | .hbm, ⟨54, _⟩ => ⟨S50000, .i32⟩
  | .hbm, ⟨55, _⟩ => ⟨S50000x1, .i32⟩
  | .hbm, ⟨56, _⟩ => ⟨S50000x1, .f32⟩
  | .hbm, ⟨57, _⟩ => ⟨S50000x1, .f32⟩
  | .hbm, ⟨58, _⟩ => ⟨S50000x1, .f32⟩
  | .hbm, ⟨59, _⟩ => ⟨S_, .f32⟩
  | .hbm, ⟨60, _⟩ => ⟨S128x1, .f32⟩
  | .hbm, ⟨61, _⟩ => ⟨S50000x1, .i32⟩
  | .hbm, ⟨62, _⟩ => ⟨S128x1, .f32⟩
  | .hbm, ⟨63, _⟩ => ⟨S_, .i32⟩
  | .hbm, ⟨64, _⟩ => ⟨S50000, .i32⟩
  | .hbm, ⟨65, _⟩ => ⟨S50000, .i1⟩
  | .hbm, ⟨66, _⟩ => ⟨S_, .i32⟩
  | .hbm, ⟨67, _⟩ => ⟨S50000, .i32⟩
  | .hbm, ⟨68, _⟩ => ⟨S50000, .i32⟩
  | .hbm, ⟨69, _⟩ => ⟨S50000, .i32⟩
  | .hbm, ⟨70, _⟩ => ⟨S50000x1, .i32⟩
  | .hbm, ⟨71, _⟩ => ⟨S50000x1, .f32⟩
  | .hbm, ⟨72, _⟩ => ⟨S_, .f32⟩
  | .hbm, ⟨73, _⟩ => ⟨S50000x1, .f32⟩
  | .hbm, ⟨74, _⟩ => ⟨S50000x1, .f32⟩
  | .hbm, ⟨75, _⟩ => ⟨S50000x1, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S128x256, .f32⟩
  | .hbm, ⟨80, _⟩ => ⟨S50000x1, .i32⟩
  | .hbm, ⟨81, _⟩ => ⟨S128x256, .f32⟩
  | .hbm, ⟨82, _⟩ => ⟨S128x512, .f32⟩
  | .hbm, ⟨83, _⟩ => ⟨S512x256, .f32⟩
  | .hbm, ⟨84, _⟩ => ⟨S128x256, .f32⟩
  | .hbm, ⟨85, _⟩ => ⟨S1x256, .f32⟩
  | .hbm, ⟨86, _⟩ => ⟨S128x256, .f32⟩
  | .hbm, ⟨87, _⟩ => ⟨S128x256, .f32⟩
  | .hbm, ⟨88, _⟩ => ⟨S_, .f32⟩
  | .hbm, ⟨89, _⟩ => ⟨S128x256, .f32⟩
  | .hbm, ⟨90, _⟩ => ⟨S128x256, .i1⟩
  | .hbm, ⟨91, _⟩ => ⟨S_, .f32⟩
  | .hbm, ⟨92, _⟩ => ⟨S128x256, .f32⟩
  | .hbm, ⟨93, _⟩ => ⟨S128x256, .f32⟩
  | .hbm, ⟨94, _⟩ => ⟨S128x256, .f32⟩
  | .hbm, ⟨95, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== Proof.Math.lean ====
/- The mathematics of the pooling over the extended reals: the leaky slope, and the softmax-weighted sum over one graph. -/
module

public import Idealize.ShloMosaic.PureOps.Ideal
public import Mathlib.Analysis.Complex.Exponential

@[expose] public section

noncomputable section

namespace Cert.Pool

open Idealize.ShloMosaic

/-- The slope: the real that the f32 word of 0.01 is. -/
def slope : ℝ := 5368709 / 536870912

/-- The least denominator: the real that the f32 word of 1e-16 is. -/
def tiny : ℝ := 15111573 / 151115727451828646838272

theorem slope_pos : 0 < slope := by unfold slope; norm_num
theorem slope_le_one : slope ≤ 1 := by unfold slope; norm_num
theorem tiny_pos : 0 < tiny := by unfold tiny; norm_num
theorem tiny_le_one : tiny ≤ 1 := by unfold tiny; norm_num

/-- The leaky rectifier: a value from zero on is kept, a negative one is scaled by the slope. -/
def leaky (v : EReal) : EReal := if 0 ≤ v then v else (slope : EReal) * v

/-- The larger of a value and its scaled copy is the leaky rectifier. -/
theorem max_leaky (v : EReal) : max v ((slope : EReal) * v) = leaky v := by
  unfold leaky
  induction v using EReal.rec with
  | bot => rw [EReal.coe_mul_bot_of_pos slope_pos]; simp
  | top => rw [EReal.coe_mul_top_of_pos slope_pos]; simp
  | coe r =>
    rw [← EReal.coe_mul]
    split
    · next h =>
      have hr : 0 ≤ r := by exact_mod_cast h
      exact max_eq_left (EReal.coe_le_coe_iff.2 (by nlinarith [slope_le_one]))
    · next h =>
      have hr : r < 0 := by
        rw [not_le] at h; exact_mod_cast h
      exact max_eq_right (EReal.coe_le_coe_iff.2 (by nlinarith [slope_le_one]))

/-- A sum of reals, as extended reals, is the real sum. -/
theorem coe_sum' {ι : Type*} (T : Finset ι) (f : ι → ℝ) : ∑ n ∈ T, (f n : EReal) = ((∑ n ∈ T, f n : ℝ) : EReal) := by
  classical
  induction T using Finset.induction_on with
  | empty => simp
  | insert a T ha ih => rw [Finset.sum_insert ha, Finset.sum_insert ha, ih, EReal.coe_add]

/-- A real factor from zero on goes into a sum of extended reals. -/
theorem mul_sum' {ι : Type*} (T : Finset ι) (r : ℝ) (hr : 0 ≤ r) (f : ι → EReal) :
    (r : EReal) * ∑ n ∈ T, f n = ∑ n ∈ T, (r : EReal) * f n := by
  classical
  induction T using Finset.induction_on with
  | empty => simp
  | insert a T ha ih => rw [Finset.sum_insert ha, Finset.sum_insert ha, ← ih, EReal.left_distrib_of_nonneg_of_ne_top (EReal.coe_nonneg.2 hr) (EReal.coe_ne_top r)]

variable {ι : Type*}

/-- The softmax pooling over one graph `T` with the gates shifted by the bias and by the graph's largest gate, each weight divided by the shifted
    denominator, is the plain weighted sum times the reciprocal of the plain denominator. Where there is a node, `M` is the
    largest shifted gate and the plain denominator is not under the guard. -/
theorem pool_eq (T : Finset ι) (g : ι → ℝ) (b : ℝ) (f : ι → EReal) (M : EReal) (hg : T.Nonempty → tiny ≤ ∑ n ∈ T, Real.exp (g n))
    (hM : T.Nonempty → ∃ n0 ∈ T, M = ((g n0 + b : ℝ) : EReal)) :
    ∑ n ∈ T, Ideal.div (Ideal.exp (((g n : EReal) + (b : EReal)) - M)) (max (∑ k ∈ T, Ideal.exp (((g k : EReal) + (b : EReal)) - M)) (tiny : EReal)) * f n
      = (∑ n ∈ T, Ideal.exp (g n : EReal) * f n) * Ideal.div 1 (max (∑ k ∈ T, Ideal.exp (g k : EReal)) (tiny : EReal)) := by
  rcases T.eq_empty_or_nonempty with rfl | hT
  · simp
  obtain ⟨n0, hn0, rfl⟩ := hM hT
  -- every shifted weight is the plain weight times one positive factor
  set q : ℝ := Real.exp (-g n0) with hq
  have hqpos : 0 < q := Real.exp_pos _
  have he : ∀ n, Ideal.exp (((g n : EReal) + (b : EReal)) - ((g n0 + b : ℝ) : EReal)) = ((q * Real.exp (g n) : ℝ) : EReal) := fun n => by
    rw [← EReal.coe_add, ← EReal.coe_sub, Ideal.exp_coe, hq, ← Real.exp_add]
    congr 2; ring
  simp only [he, Ideal.exp_coe]
  rw [coe_sum', coe_sum', ← Finset.mul_sum]
  set D : ℝ := ∑ k ∈ T, Real.exp (g k) with hD
  have hDge : Real.exp (g n0) ≤ D := Finset.single_le_sum (f := fun k => Real.exp (g k)) (fun k _ => (Real.exp_pos _).le) hn0
  have hDpos : 0 < D := (Real.exp_pos _).trans_le hDge
  have hDtiny : tiny ≤ D := hg hT
  have hqD : tiny ≤ q * D := tiny_le_one.trans (by
    calc (1 : ℝ) = q * Real.exp (g n0) := by rw [hq, ← Real.exp_add]; simp
      _ ≤ q * D := mul_le_mul_of_nonneg_left hDge hqpos.le)
  rw [max_eq_left (EReal.coe_le_coe_iff.2 hqD), max_eq_left (EReal.coe_le_coe_iff.2 hDtiny)]
  rw [Ideal.div_coe hDpos.ne', one_mul, mul_comm (∑ n ∈ T, _), mul_sum' T _ (one_div_pos.2 hDpos).le]
  refine Finset.sum_congr rfl fun n _ => ?_
  rw [Ideal.div_coe (mul_pos hqpos hDpos).ne', ← mul_assoc, ← EReal.coe_mul, ← EReal.coe_mul]
  congr 2
  field_simp

end Cert.Pool

end
-- ==== Proof.Consts.lean ====
/- The float literals of the two programs, each as the real that its word is. -/
module

public import proofs.«01_k».proof.Proof.Math
public import Idealize.ShloMosaic.Lib.IdealHost

@[expose] public section

noncomputable section

namespace Cert.Pool

open Idealize.ShloMosaic

/-- The word of the slope 0.01 is the real `slope`. -/
theorem ofBits_slope : Ideal.ofBits .f32 0x3C23D70A#32 = (slope : EReal) := by
  unfold slope; simp [Ideal.ofBits, Ideal.ieee, -EReal.coe_mul]; norm_num

/-- The word of the least denominator 1e-16 is the real `tiny`. -/
theorem ofBits_tiny : Ideal.ofBits .f32 0x24E69595#32 = (tiny : EReal) := by
  unfold tiny; simp [Ideal.ofBits, Ideal.ieee, -EReal.coe_mul]; norm_num

/-- The word of 60. -/
theorem ofBits_60 : Ideal.ofBits .f32 0x42700000#32 = ((60 : ℝ) : EReal) := by
  simp [Ideal.ofBits, Ideal.ieee, -EReal.coe_mul]; norm_num

/-- The word of −60. -/
theorem ofBits_neg60 : Ideal.ofBits .f32 0xC2700000#32 = ((-60 : ℝ) : EReal) := by
  simp [Ideal.ofBits, Ideal.ieee, -EReal.coe_mul]; norm_num

/-- The word of +∞. -/
theorem ofBits_inf : Ideal.ofBits .f32 0x7F800000#32 = ⊤ := by
  simp [Ideal.ofBits, Ideal.ieee]

/-- The word of −∞. -/
theorem ofBits_neg_inf : Ideal.ofBits .f32 0xFF800000#32 = ⊥ := by
  simp [Ideal.ofBits, Ideal.ieee]

end Cert.Pool

end
-- ==== Proof.Block.lean ====
/- What one block of nodes adds: the kernel's payloads read at an index over the extended reals. -/
module

public import proofs.«01_k».proof.Proof.Consts
public import proofs.«01_k».proof.Proof.Gen.KernelIdeal.Skeleton
public import Idealize.ShloMosaic.Lib.Pointwise

@[expose] public section

set_option maxRecDepth 16384

noncomputable section

namespace Cert.Pool

open Idealize.ShloMosaic Cert.KernelIdeal Cert.KernelIdeal.Gen
open Idealize.ShloMosaic.Pointwise

/-- The named slope of the bf16 multiplication is the real slope. -/
theorem named_slope_bf16 : Named.named (F := Ideal) Cert.KernelIdeal.κ "slope" (φ := .bf16) 0x3C24#16 = (slope : EReal) :=
  IdealRules.named_const.ideal_named_scalar _ _ _ _ rfl

/-- The named slope of the f32 multiplication is the real slope. -/
theorem named_slope_f32 : Named.named (F := Ideal) Cert.KernelIdeal.κ "slope" (φ := .f32) 0x3C23D70A#32 = (slope : EReal) :=
  IdealRules.named_const.ideal_named_scalar _ _ _ _ rfl

/-- A select on the equality of two words is the choice by their equality. -/
theorem select_eq_word {w : ℕ} {α : Type} (x y : BitVec w) (a b : α) :
    Scalar.select (IntOp.cmpi .eq x y) a b = if x = y then a else b := by
  by_cases h : x = y <;> simp [h, IntOp.cmpi, Scalar.select, beq_eq_false_iff_ne.2]

/-- The weight of a gate: the exponential of the gate clipped to −60 … 60. -/
def weight (v : EReal) : EReal := Ideal.exp (min ((60 : ℝ) : EReal) (max ((-60 : ℝ) : EReal) v))

/-- The weight with which node `r` of a block counts for graph `j`: its gate's weight where the node's graph word is `j`, else zero. -/
theorem pay7_apply (x : Vec Ideal S5000x256 .f32) (b : Vec Ideal S1x1x5000 .i32) (wg : Vec Ideal S256x1 .bf16) (j : Fin 128) (r : Fin 5000) :
    k0_pay7 x b wg (ix2 j r) =
      if BitVec.setWidth 16 (b (ix3 0 0 r)) = BitVec.ofNat 16 j.val then weight (∑ k : Fin 256, x (ix2 r k) * wg (ix2 k 0)) else 0 := by
  pointwise [k0_pay7, k0_pay6]
  rw [select_eq_word, ofBits_60, ofBits_neg60]
  simp only [weight, mul_comm (wg _)]

/-- What a block adds to graph `j`'s denominator: the sum of its nodes' weights for `j`. -/
theorem pay8_apply (x : Vec Ideal S5000x256 .f32) (b : Vec Ideal S1x1x5000 .i32) (wg : Vec Ideal S256x1 .bf16) (j : Fin 128) :
    k0_pay8 x b wg (ix2 j 0) = ∑ r : Fin 5000, k0_pay7 x b wg (ix2 j r) := by
  pointwise [k0_pay8]

/-- What a block adds to graph `j`'s numerator at channel `h`: the weighted sum of its nodes' features. -/
theorem pay9_apply (x : Vec Ideal S5000x256 .f32) (b : Vec Ideal S1x1x5000 .i32) (wg : Vec Ideal S256x1 .bf16) (wf : Vec Ideal S256x256 .bf16) (j : Fin 128) (h : Fin 256) :
    k0_pay9 x b wg wf (ix2 j h) =
      ∑ r : Fin 5000, k0_pay7 x b wg (ix2 j r) * leaky (∑ k : Fin 256, x (ix2 r k) * wf (ix2 k h)) := by
  pointwise [k0_pay9, k0_pay6]
  simp only [named_slope_bf16, max_leaky]

/-- What the last point writes at graph `j`, channel `h`, over the denominator `d` and the numerator `s`. -/
theorem pay3_apply (d : Vec Ideal S128x1 .f32) (s xg : Vec Ideal S128x256 .f32) (w1 w2 : Vec Ideal S256x256 .f32) (j : Fin 128) (h : Fin 256) :
    k0_pay3 d s xg w1 w2 (ix2 j h) =
      leaky ((∑ k : Fin 256, s (ix2 j k) * Ideal.div 1 (max (d (ix2 j 0)) (tiny : EReal)) * w1 (ix2 k h)) + ∑ k : Fin 256, xg (ix2 j k) * w2 (ix2 k h))
        + xg (ix2 j h) := by
  pointwise [k0_pay3]
  simp only [named_slope_f32, max_leaky, ofBits_tiny]

/-- One accumulation into the denominator. -/
theorem pay1_apply (v d : Vec Ideal S128x1 .f32) (i : S128x1.Idx) : k0_pay1 v d i = d i + v i := by
  pointwise [k0_pay1]

/-- One accumulation into the numerator. -/
theorem pay2_apply (v s : Vec Ideal S128x256 .f32) (i : S128x256.Idx) : k0_pay2 v s i = s i + v i := by
  pointwise [k0_pay2]

/-- The denominator starts at zero. -/
theorem pay4_apply (i : S128x1.Idx) : k0_pay4 (F := Ideal) i = 0 := by
  pointwise [k0_pay4]

/-- The numerator starts at zero. -/
theorem pay5_apply (i : S128x256.Idx) : k0_pay5 (F := Ideal) i = 0 := by
  pointwise [k0_pay5]

end Cert.Pool

end
-- ==== Proof.Model.lean ====
/- The kernel's result as one formula over the argument arrays. -/
module

public import proofs.«01_k».proof.Proof.Block

@[expose] public section

noncomputable section

namespace Cert.Pool

open Idealize.ShloMosaic Cert.KernelIdeal
open Idealize.ShloMosaic.Pointwise

variable (xg : Vec Ideal S128x256 .f32) (x : Vec Ideal S50000x256 .f32) (b : Vec Ideal S50000 .i32) (wg : Vec Ideal S1x256 .f32)
variable (wf : Vec Ideal S256x256 .f32) (wt : Vec Ideal S256x512 .f32)

/-- The gate of a node. -/
def gate (n : Fin 50000) : EReal := ∑ k : Fin 256, x (ix2 n k) * wg (ix2 0 k)

/-- The feature of a node at a channel, before the rectifier. -/
def feat (n : Fin 50000) (h : Fin 256) : EReal := ∑ k : Fin 256, x (ix2 n k) * wf (ix2 h k)

/-- The weight with which a node counts for graph `j` in the kernel. -/
def cell (j : Fin 128) (n : Fin 50000) : EReal :=
  if BitVec.setWidth 16 (b (ix1 n)) = BitVec.ofNat 16 j.val then weight (gate x wg n) else 0

/-- A graph's denominator in the kernel. -/
def den (j : Fin 128) : EReal := ∑ n : Fin 50000, cell x b wg j n

/-- A graph's numerator in the kernel at a channel. -/
def num (j : Fin 128) (h : Fin 256) : EReal := ∑ n : Fin 50000, cell x b wg j n * leaky (feat x wf n h)

/-- The left column `k` of the output weights' columns. -/
def lcol (k : Fin 256) : Fin 512 := ⟨k.val, by have := k.isLt; omega⟩

/-- The right column `k` of the output weights' columns. -/
def rcol (k : Fin 256) : Fin 512 := ⟨256 + k.val, by have := k.isLt; omega⟩

/-- The kernel's result at a graph and a channel. -/
def result (j : Fin 128) (h : Fin 256) : EReal :=
  leaky ((∑ k : Fin 256, num x b wg wf j k * Ideal.div 1 (max (den x b wg j) (tiny : EReal)) * wt (ix2 h (lcol k)))
    + ∑ k : Fin 256, xg (ix2 j k) * wt (ix2 h (rcol k))) + xg (ix2 j h)

/-- A sum over the nodes is the sum over ten blocks of the sums over each block's nodes. -/
theorem sum_nodes (f : Fin 50000 → EReal) (g : ℕ → EReal)
    (hg : ∀ t : Fin 10, g t.val = ∑ r : Fin 5000, f ⟨5000 * t.val + r.val, by have := t.isLt; have := r.isLt; omega⟩) :
    ∑ s ∈ Finset.range 10, g s = ∑ n : Fin 50000, f n := by
  rw [Finset.sum_range]
  simp only [hg]
  rw [← Fintype.sum_prod_type' (fun (t : Fin 10) (r : Fin 5000) => f ⟨5000 * t.val + r.val, by have := t.isLt; have := r.isLt; omega⟩)]
  refine Fintype.sum_equiv (finProdFinEquiv (m := 10) (n := 5000)) _ _ fun p => ?_
  congr 1
  apply Fin.ext
  show 5000 * p.1.val + p.2.val = p.2.val + 5000 * p.1.val
  omega

end Cert.Pool

end
-- ==== Proof.Pieces.lean ====
/- What each point's body leaves in the carried denominator and numerator and in the result, as payloads of its blocks. -/
module

public import proofs.«01_k».proof.Proof.Gen.KernelIdeal.Frame
public import Idealize.ShloMosaic.Lib.Tactic
public import Idealize.ShloMosaic.Lib.Pipeline.Value

@[expose] public section

noncomputable section

namespace Cert.Pool

open Idealize.ShloMosaic Idealize.ShloMosaic.TcCoe Cert.KernelIdeal Cert.KernelIdeal.Gen

variable {F : FTy → Type} [FloatOps F] [Named F]

/-- Two zero offsets are the zero offset function. -/
theorem hz2 : (![0, 0] : Fin 2 → Nat) = fun _ => 0 := funext fun a => by fin_cases a <;> rfl

/-- Three zero offsets are the zero offset function. -/
theorem hz3 : (![0, 0, 0] : Fin 3 → Nat) = fun _ => 0 := funext fun a => by fin_cases a <;> rfl

variable (c : Dev nD) (i : grid0.Coords)
variable (arg1 : Memref sig .tc .vmem S5000x256 .f32) (harg1 : arg1.IsWhole)
variable (arg2 : Memref sig .tc .vmem S1x1x5000 .i32) (harg2 : arg2.IsWhole)
variable (arg3 : Memref sig .tc .vmem S256x1 .bf16) (harg3 : arg3.IsWhole)
variable (arg4 : Memref sig .tc .vmem S256x256 .bf16) (harg4 : arg4.IsWhole)
variable (arg5 : Memref sig .tc .vmem S256x256 .f32) (harg5 : arg5.IsWhole)
variable (arg6 : Memref sig .tc .vmem S256x256 .f32) (harg6 : arg6.IsWhole)
variable (arg7 : Memref sig .tc .vmem S128x256 .f32) (harg7 : arg7.IsWhole)
variable (arg8 : Memref sig .tc .vmem S128x256 .f32) (harg8 : arg8.IsWhole)
variable (arg9 : Memref sig .tc .vmem S128x1 .f32) (harg9 : arg9.IsWhole)
variable (arg10 : Memref sig .tc .vmem S128x256 .f32) (harg10 : arg10.IsWhole)
variable (x0 : Vec F S5000x256 .f32) (x1 : Vec F S1x1x5000 .i32) (x2 : Vec F S256x1 .bf16) (x3 : Vec F S256x256 .bf16)
variable (x4 : Vec F S256x256 .f32) (x5 : Vec F S256x256 .f32) (x6 : Vec F S128x256 .f32)
variable (xs0 : Vec F S128x1 .f32) (xs1 : Vec F S128x256 .f32)

/-- The first point leaves the block's weights over zero in the denominator. -/
theorem sout0_A_0_eq (hc0 : cond0_0 i) (hc1 : ¬cond0_1 i) :
    sout0_A_0 c i arg1 harg1 arg2 harg2 arg3 harg3 arg4 harg4 arg5 harg5 arg6 harg6 arg7 harg7 arg8 harg8 arg9 harg9 arg10 harg10 hc0 hc1 x0 x1 x2 x3 x4 x5 x6 = k0_pay1 (k0_pay8 x0 x1 x2) k0_pay4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S128x1) hz2]
  simp only [View.readCov_unit_zero (S := S128x1) _ hz2, View.readCov_unit_zero (S := S128x256) _ hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S5000x256) hz2, View.ld_unit_zero (S := S1x1x5000) hz3, View.ld_unit_zero (S := S256x1) hz2, View.ld_unit_zero (S := S256x256) hz2, View.ld_unit_zero (S := S128x256) hz2, View.ld_unit_zero (S := S128x1) hz2]

/-- The first point leaves the block's weighted features over zero in the numerator. -/
theorem sout0_A_1_eq (hc0 : cond0_0 i) (hc1 : ¬cond0_1 i) :
    sout0_A_1 c i arg1 harg1 arg2 harg2 arg3 harg3 arg4 harg4 arg5 harg5 arg6 harg6 arg7 harg7 arg8 harg8 arg9 harg9 arg10 harg10 hc0 hc1 x0 x1 x2 x3 x4 x5 x6 = k0_pay2 (k0_pay9 x0 x1 x2 x3) k0_pay5 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S128x256) hz2]
  simp only [View.readCov_unit_zero (S := S128x1) _ hz2, View.readCov_unit_zero (S := S128x256) _ hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S5000x256) hz2, View.ld_unit_zero (S := S1x1x5000) hz3, View.ld_unit_zero (S := S256x1) hz2, View.ld_unit_zero (S := S256x256) hz2, View.ld_unit_zero (S := S128x256) hz2, View.ld_unit_zero (S := S128x1) hz2]

/-- A middle point adds the block's weights to the denominator. -/
theorem sout0_B_0_eq (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay1 (k0_pay8 x0 x1 x2) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S5000x256) hz2, View.ld_unit_zero (S := S1x1x5000) hz3, View.ld_unit_zero (S := S256x1) hz2, View.ld_unit_zero (S := S256x256) hz2, View.ld_unit_zero (S := S128x256) hz2, View.ld_unit_zero (S := S128x1) hz2]

/-- A middle point adds the block's weighted features to the numerator. -/
theorem sout0_B_1_eq (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay2 (k0_pay9 x0 x1 x2 x3) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S5000x256) hz2, View.ld_unit_zero (S := S1x1x5000) hz3, View.ld_unit_zero (S := S256x1) hz2, View.ld_unit_zero (S := S256x256) hz2, View.ld_unit_zero (S := S128x256) hz2, View.ld_unit_zero (S := S128x1) hz2]

/-- The last point writes the result of the full denominator and numerator. -/
theorem out0_C_7_eq (hc0 : ¬cond0_0 i) (hc1 : cond0_1 i) :
    out0_C_7 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay3 (k0_pay1 (k0_pay8 x0 x1 x2) xs0) (k0_pay2 (k0_pay9 x0 x1 x2 x3) xs1) x6 x4 x5 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_C
  dsimp only
  sl_unfold_words
  rw [View.canon_unit_zero hz2]
  simp only [View.readCov_unit_zero (S := S128x1) _ hz2, View.readCov_unit_zero (S := S128x256) _ hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S5000x256) hz2, View.ld_unit_zero (S := S1x1x5000) hz3, View.ld_unit_zero (S := S256x1) hz2, View.ld_unit_zero (S := S256x256) hz2, View.ld_unit_zero (S := S128x256) hz2, View.ld_unit_zero (S := S128x1) hz2]

end Cert.Pool

end
-- ==== Proof.Windows.lean ====
/- What each window's block holds at a point, as entries of the argument arrays. -/
module

public import proofs.«01_k».proof.Proof.Gen.KernelIdeal.Frame
public import Idealize.ShloMosaic.Lib.Pointwise
public import Idealize.ShloMosaic.Lib.StableHlo.ReadAt
public import Idealize.ShloMosaic.Lib.Pipeline.Value

@[expose] public section

set_option maxRecDepth 16384

noncomputable section

namespace Cert.Pool

open Idealize.ShloMosaic Idealize.ShloMosaic.TcCoe Cert.KernelIdeal Cert.KernelIdeal.Gen
open Idealize.ShloMosaic.Pointwise

variable (m : (ℓ : Loc nD τ sig) → Buf (Elt Ideal) ℓ) (c : Dev nD)

/-- Node `r` of the block of point `t`. -/
def node (t : Fin cfg0.N) (r : Fin 5000) : Fin 50000 :=
  ⟨5000 * t.val + r.val, by have ht : t.val < 10 := Nat.lt_of_lt_of_eq t.isLt N_0; have := r.isLt; omega⟩

/-- The node block of point `t` holds rows `5000 t …` of the node array. -/
theorem block_x (t : Fin cfg0.N) (r : Fin 5000) (k : Fin 256) :
    iblk m c 0 t (ix2 r k) = m ((c : Thread nD τ).loc main_arg1) (ix2 (node t r) k) := by
  have ht : t.val < 10 := Nat.lt_of_lt_of_eq t.isLt N_0
  have hi : win0_0.index t 0 = t.val ∧ win0_0.index t 1 = 0 := by
    rcases fin_N0 t with rfl | rfl | rfl | rfl | rfl | rfl | rfl | rfl | rfl | rfl <;> decide
  unfold iblk
  rw [View.read_apply]
  show V m c main_arg1 _ = _
  rw [V_main_arg1]
  congr 1
  funext a
  apply Fin.ext
  match a with
  | ⟨0, _⟩ => show win0_0.index t 0 * 5000 + 1 * r.val = 5000 * t.val + r.val; rw [hi.1]; omega
  | ⟨1, _⟩ => show win0_0.index t 1 * 256 + 1 * k.val = k.val; rw [hi.2]; omega

/-- The reshaped graph words: block `t`, position `r` is node `5000 t + r`'s word. -/
theorem V_v0 (t : Fin 10) (r : Fin 5000) (n : Fin 50000) (hn : n.val = 5000 * t.val + r.val) :
    V m c main_v0 (ix3 t 0 r) = m ((c : Thread nD τ).loc main_arg2) (ix1 n) := by
  unfold V
  after_reads_at
  show m _ _ = m _ _
  congr 2
  apply Fin.ext
  show t.val * 5000 + r.val = n.val
  omega

/-- The transposed gate weights. -/
theorem V_v2 (k : Fin 256) : V m c main_v2 (ix2 k 0) = m ((c : Thread nD τ).loc main_arg3) (ix2 0 k) := by
  unfold V
  after_reads_at

/-- The transposed feature weights. -/
theorem V_v4 (k h : Fin 256) : V m c main_v4 (ix2 k h) = m ((c : Thread nD τ).loc main_arg5) (ix2 h k) := by
  unfold V
  after_reads_at

/-- The transposed left half of the output weights. -/
theorem V_v6 (k h : Fin 256) : V m c main_v6 (ix2 k h) = m ((c : Thread nD τ).loc main_arg7) (ix2 h ⟨k.val, by have := k.isLt; omega⟩) := by
  unfold V
  after_reads_at

/-- The transposed right half of the output weights. -/
theorem V_v8 (k h : Fin 256) : V m c main_v8 (ix2 k h) = m ((c : Thread nD τ).loc main_arg7) (ix2 h ⟨256 + k.val, by have := k.isLt; omega⟩) := by
  unfold V
  after_reads_at

/-- The word block of point `t` holds the graph words of its nodes. -/
theorem block_b (t : Fin cfg0.N) (r : Fin 5000) :
    iblk m c 1 t (ix3 0 0 r) = m ((c : Thread nD τ).loc main_arg2) (ix1 (node t r)) := by
  have ht : t.val < 10 := Nat.lt_of_lt_of_eq t.isLt N_0
  have hi : win0_1.index t 0 = t.val ∧ win0_1.index t 1 = 0 ∧ win0_1.index t 2 = 0 := by
    rcases fin_N0 t with rfl | rfl | rfl | rfl | rfl | rfl | rfl | rfl | rfl | rfl <;> decide
  unfold iblk
  rw [View.read_apply]
  refine Eq.trans ?_ (V_v0 m c ⟨t.val, ht⟩ r (node t r) rfl)
  show V m c main_v0 _ = V m c main_v0 _
  congr 1
  funext a
  apply Fin.ext
  match a with
  | ⟨0, _⟩ => show win0_1.index t 0 * 1 + 1 * 0 = t.val; rw [hi.1]; omega
  | ⟨1, _⟩ => show win0_1.index t 1 * 1 + 1 * 0 = 0; rw [hi.2.1]
  | ⟨2, _⟩ => show win0_1.index t 2 * 5000 + 1 * r.val = r.val; rw [hi.2.2]; omega

/-- The gate-weight block is the transposed gate weights. -/
theorem block_wg (t : Fin cfg0.N) (k : Fin 256) :
    iblk m c 2 t (ix2 k 0) = m ((c : Thread nD τ).loc main_arg3) (ix2 0 k) := by
  have hi : win0_2.index t 0 = 0 ∧ win0_2.index t 1 = 0 := by
    rcases fin_N0 t with rfl | rfl | rfl | rfl | rfl | rfl | rfl | rfl | rfl | rfl <;> decide
  unfold iblk
  rw [View.read_apply]
  refine Eq.trans ?_ (V_v2 m c k)
  show V m c main_v2 _ = V m c main_v2 _
  congr 1
  funext a
  apply Fin.ext
  match a with
  | ⟨0, _⟩ => show win0_2.index t 0 * 256 + 1 * k.val = k.val; rw [hi.1]; omega
  | ⟨1, _⟩ => show win0_2.index t 1 * 1 + 1 * 0 = 0; rw [hi.2]

/-- The feature-weight block is the transposed feature weights. -/
theorem block_wf (t : Fin cfg0.N) (k h : Fin 256) :
    iblk m c 3 t (ix2 k h) = m ((c : Thread nD τ).loc main_arg5) (ix2 h k) := by
  have hi : win0_3.index t 0 = 0 ∧ win0_3.index t 1 = 0 := by
    rcases fin_N0 t with rfl | rfl | rfl | rfl | rfl | rfl | rfl | rfl | rfl | rfl <;> decide
  unfold iblk
  rw [View.read_apply]
  refine Eq.trans ?_ (V_v4 m c k h)
  show V m c main_v4 _ = V m c main_v4 _
  congr 1
  funext a
  apply Fin.ext
  match a with
  | ⟨0, _⟩ => show win0_3.index t 0 * 256 + 1 * k.val = k.val; rw [hi.1]; omega
  | ⟨1, _⟩ => show win0_3.index t 1 * 256 + 1 * h.val = h.val; rw [hi.2]; omega

/-- The first output-weight block is the transposed left half. -/
theorem block_w1 (t : Fin cfg0.N) (k h : Fin 256) :
    iblk m c 4 t (ix2 k h) = m ((c : Thread nD τ).loc main_arg7) (ix2 h ⟨k.val, by have := k.isLt; omega⟩) := by
  have hi : win0_4.index t 0 = 0 ∧ win0_4.index t 1 = 0 := by
    rcases fin_N0 t with rfl | rfl | rfl | rfl | rfl | rfl | rfl | rfl | rfl | rfl <;> decide
  unfold iblk
  rw [View.read_apply]
  refine Eq.trans ?_ (V_v6 m c k h)
  show V m c main_v6 _ = V m c main_v6 _
  congr 1
  funext a
  apply Fin.ext
  match a with
  | ⟨0, _⟩ => show win0_4.index t 0 * 256 + 1 * k.val = k.val; rw [hi.1]; omega
  | ⟨1, _⟩ => show win0_4.index t 1 * 256 + 1 * h.val = h.val; rw [hi.2]; omega

/-- The second output-weight block is the transposed right half. -/
theorem block_w2 (t : Fin cfg0.N) (k h : Fin 256) :
    iblk m c 5 t (ix2 k h) = m ((c : Thread nD τ).loc main_arg7) (ix2 h ⟨256 + k.val, by have := k.isLt; omega⟩) := by
  have hi : win0_5.index t 0 = 0 ∧ win0_5.index t 1 = 0 := by
    rcases fin_N0 t with rfl | rfl | rfl | rfl | rfl | rfl | rfl | rfl | rfl | rfl <;> decide
  unfold iblk
  rw [View.read_apply]
  refine Eq.trans ?_ (V_v8 m c k h)
  show V m c main_v8 _ = V m c main_v8 _
  congr 1
  funext a
  apply Fin.ext
  match a with
  | ⟨0, _⟩ => show win0_5.index t 0 * 256 + 1 * k.val = k.val; rw [hi.1]; omega
  | ⟨1, _⟩ => show win0_5.index t 1 * 256 + 1 * h.val = h.val; rw [hi.2]; omega

/-- The old-feature block is the old graph features. -/
theorem block_xg (t : Fin cfg0.N) (j : Fin 128) (h : Fin 256) :
    iblk m c 6 t (ix2 j h) = m ((c : Thread nD τ).loc main_arg0) (ix2 j h) := by
  have hi : win0_6.index t 0 = 0 ∧ win0_6.index t 1 = 0 := by
    rcases fin_N0 t with rfl | rfl | rfl | rfl | rfl | rfl | rfl | rfl | rfl | rfl <;> decide
  unfold iblk
  rw [View.read_apply]
  refine Eq.trans ?_ (congrFun (V_main_arg0 m c) (ix2 j h))
  show V m c main_arg0 _ = V m c main_arg0 _
  congr 1
  funext a
  apply Fin.ext
  match a with
  | ⟨0, _⟩ => show win0_6.index t 0 * 128 + 1 * j.val = j.val; rw [hi.1]; omega
  | ⟨1, _⟩ => show win0_6.index t 1 * 256 + 1 * h.val = h.val; rw [hi.2]; omega

end Cert.Pool

end
-- ==== Proof.Fold.lean ====
/- The carried denominator and numerator after each point, and the array the kernel leaves. -/
module

public import proofs.«01_k».proof.Proof.Model
public import proofs.«01_k».proof.Proof.Pieces
public import proofs.«01_k».proof.Proof.Windows
public import proofs.«01_k».proof.Proof.Gen.KernelIdeal.Value

@[expose] public section

noncomputable section

namespace Cert.Pool

open Idealize.ShloMosaic Idealize.ShloMosaic.TcCoe Cert.KernelIdeal Cert.KernelIdeal.Gen
open Idealize.ShloMosaic.Pointwise

variable (m : (ℓ : Loc nD τ sig) → Buf (Elt Ideal) ℓ) (c : Dev nD)

/-- The node features. -/
abbrev argX : Vec Ideal S50000x256 .f32 := m ((c : Thread nD τ).loc main_arg1)
/-- The graph words. -/
abbrev argB : Vec Ideal S50000 .i32 := m ((c : Thread nD τ).loc main_arg2)
/-- The gate weights. -/
abbrev argWg : Vec Ideal S1x256 .f32 := m ((c : Thread nD τ).loc main_arg3)
/-- The feature weights. -/
abbrev argWf : Vec Ideal S256x256 .f32 := m ((c : Thread nD τ).loc main_arg5)
/-- The output weights. -/
abbrev argWt : Vec Ideal S256x512 .f32 := m ((c : Thread nD τ).loc main_arg7)
/-- The old graph features. -/
abbrev argXg : Vec Ideal S128x256 .f32 := m ((c : Thread nD τ).loc main_arg0)

/-- A node's weight for a graph, read in the block of point `t`, is the node's cell. -/
theorem pay7_block (t : Fin cfg0.N) (j : Fin 128) (r : Fin 5000) :
    k0_pay7 (iblk m c 0 t) (iblk m c 1 t) (iblk m c 2 t) (ix2 j r) = cell (argX m c) (argB m c) (argWg m c) j (node t r) := by
  rw [pay7_apply]
  unfold cell gate
  rw [block_b]
  simp only [block_x, block_wg]

/-- What point `s` adds to graph `j`'s denominator. -/
def denAt (j : Fin 128) (s : ℕ) : EReal :=
  if hs : s < cfg0.N then ∑ r : Fin 5000, cell (argX m c) (argB m c) (argWg m c) j (node ⟨s, hs⟩ r) else 0

/-- What point `s` adds to graph `j`'s numerator at channel `h`. -/
def numAt (j : Fin 128) (h : Fin 256) (s : ℕ) : EReal :=
  if hs : s < cfg0.N then
    ∑ r : Fin 5000, cell (argX m c) (argB m c) (argWg m c) j (node ⟨s, hs⟩ r) * leaky (feat (argX m c) (argWf m c) (node ⟨s, hs⟩ r) h)
  else 0

/-- The denominator payload of point `t`'s blocks. -/
theorem pay8_block (t : Fin cfg0.N) (j : Fin 128) :
    k0_pay8 (iblk m c 0 t) (iblk m c 1 t) (iblk m c 2 t) (ix2 j 0) = denAt m c j t.val := by
  rw [pay8_apply, denAt, dif_pos t.isLt]
  exact Finset.sum_congr rfl fun r _ => pay7_block m c t j r

/-- The numerator payload of point `t`'s blocks. -/
theorem pay9_block (t : Fin cfg0.N) (j : Fin 128) (h : Fin 256) :
    k0_pay9 (iblk m c 0 t) (iblk m c 1 t) (iblk m c 2 t) (iblk m c 3 t) (ix2 j h) = numAt m c j h t.val := by
  rw [pay9_apply, numAt, dif_pos t.isLt]
  refine Finset.sum_congr rfl fun r _ => ?_
  rw [pay7_block]
  unfold feat
  simp only [block_x, block_wf]

/-- The carried scratch after each point before the last: the sums of what the points so far added. -/
theorem carried (n : ℕ) (hn : n < cfg0.N) (h9 : n < 9) :
    (∀ j : Fin 128, (outsAt0 m c n hn).2.1 (ix2 j 0) = ∑ s ∈ Finset.range (n + 1), denAt m c j s)
    ∧ ∀ (j : Fin 128) (h : Fin 256), (outsAt0 m c n hn).2.2 (ix2 j h) = ∑ s ∈ Finset.range (n + 1), numAt m c j h s := by
  induction n with
  | zero =>
    rw [outsAt0_A m c ⟨0, hn⟩ (by dsimp only) (by dsimp only; omega)]
    dsimp only
    rw [sout0_A_0_eq, sout0_A_1_eq]
    refine ⟨fun j => ?_, fun j h => ?_⟩
    · rw [pay1_apply, pay4_apply, pay8_block, Finset.sum_range_one, zero_add]
    · rw [pay2_apply, pay5_apply, pay9_block, Finset.sum_range_one, zero_add]
  | succ n ih =>
    obtain ⟨ih0, ih1⟩ := ih (Nat.lt_of_succ_lt hn) (Nat.lt_of_succ_lt h9)
    rw [outsAt0_B m c ⟨n + 1, hn⟩ (by dsimp only; omega) (by dsimp only; omega)]
    dsimp only
    rw [sout0_B_0_eq, sout0_B_1_eq]
    refine ⟨fun j => ?_, fun j h => ?_⟩
    · rw [pay1_apply, pay8_block, Finset.sum_range_succ, ← ih0 j]
      rfl
    · rw [pay2_apply, pay9_block, Finset.sum_range_succ, ← ih1 j h]
      rfl

/-- The points' additions to a denominator make the whole denominator. -/
theorem sum_denAt (j : Fin 128) : ∑ s ∈ Finset.range 10, denAt m c j s = den (argX m c) (argB m c) (argWg m c) j :=
  sum_nodes _ _ fun t => by
    rw [denAt, dif_pos (Nat.lt_of_lt_of_eq t.isLt N_0.symm)]
    rfl

/-- The points' additions to a numerator make the whole numerator. -/
theorem sum_numAt (j : Fin 128) (h : Fin 256) :
    ∑ s ∈ Finset.range 10, numAt m c j h s = num (argX m c) (argB m c) (argWg m c) (argWf m c) j h :=
  sum_nodes (fun n => cell (argX m c) (argB m c) (argWg m c) j n * leaky (feat (argX m c) (argWf m c) n h)) _ fun t => by
    rw [numAt, dif_pos (Nat.lt_of_lt_of_eq t.isLt N_0.symm)]
    rfl

/-- The array the kernel leaves is the formula of the argument arrays. -/
theorem kernel_result (j : Fin 128) (h : Fin 256) :
    Cert.KernelIdeal.Value.G7 m c (ix2 j h)
      = result (argXg m c) (argX m c) (argB m c) (argWg m c) (argWf m c) (argWt m c) j h := by
  have h9 : 9 < cfg0.N := Nat.lt_of_lt_of_eq (by decide) N_0.symm
  have h8 : 8 < cfg0.N := Nat.lt_of_lt_of_eq (by decide) N_0.symm
  obtain ⟨hd, hs⟩ := carried m c 8 h8 (by decide)
  rw [Cert.KernelIdeal.Value.G7_last, ← Cert.KernelIdeal.Value.outsAt0_sweep m c 9 h9,
    outsAt0_C m c ⟨9, h9⟩ (by dsimp only; omega) (by dsimp only)]
  dsimp only
  rw [out0_C_7_eq, pay3_apply, pay1_apply, pay8_block]
  simp only [pay2_apply, pay9_block, block_w1, block_w2, block_xg]
  have ed : (outsAt0 m c 8 h8).2.1 (ix2 j 0) + denAt m c j 9 = den (argX m c) (argB m c) (argWg m c) j := by
    rw [hd, ← Finset.sum_range_succ, sum_denAt]
  have es : ∀ k : Fin 256, (outsAt0 m c 8 h8).2.2 (ix2 j k) + numAt m c j k 9 = num (argX m c) (argB m c) (argWg m c) (argWf m c) j k := fun k => by
    rw [hs, ← Finset.sum_range_succ, sum_numAt]
  rw [ed]
  simp only [es]
  rfl

end Cert.Pool

end
-- ==== Proof.Pre.lean ====
/- What the precondition says of the arguments, entry by entry. -/
module

public import proofs.«01_k».proof.Proof.Model
public import proofs.«01_k».proof.Pre_in_range

@[expose] public section

set_option maxRecDepth 16384

noncomputable section

namespace Cert.Pool

open Idealize.ShloMosaic Idealize.ShloMosaic.Pointwise
open Cert.KernelIdeal (S128x256 S50000x256 S50000 S1x256 S1 S256x256 S256 S256x512)

variable [Cert.Pre_in_range.Facts]
variable (xg : Vec Ideal S128x256 .f32) (x : Vec Ideal S50000x256 .f32) (b : Vec Ideal S50000 .i32) (wg : Vec Ideal S1x256 .f32) (bg : Vec Ideal S1 .f32)
variable (wf : Vec Ideal S256x256 .f32) (bf : Vec Ideal S256 .f32) (wt : Vec Ideal S256x512 .f32) (bt : Vec Ideal S256 .f32)

/-- A decided word is one exactly where the decision holds. -/
theorem of_ofBool {p : Prop} [Decidable p] (h : BitVec.ofBool (decide p) = 1#1) : p := by
  by_contra hp
  simp [hp] at h

/-- The conjunction of two decided words is one exactly where both decisions hold. -/
theorem of_andi {p q : Bool} (h : IntOp.andi (BitVec.ofBool p) (BitVec.ofBool q) = 1#1) : p = true ∧ q = true := by
  cases p <;> cases q <;> revert h <;> decide

/-- Every graph word is the word of a graph. -/
theorem pre_batch (h : (Cert.Pre_in_range.fn (F := Ideal) xg x b wg bg wf bf wt bt).1 = fun _ => 1#1) (n : Fin 50000) :
    ∃ j : Fin 128, b (ix1 n) = BitVec.ofNat 32 j.val := by
  have e := congrFun h (ix1 n)
  unfold Cert.Pre_in_range.fn Cert.Pre_in_range.fn_part1 at e
  dsimp only at e
  pointwise at e
  obtain ⟨h0, h1⟩ := of_andi e
  generalize b (ix1 n) = v at h0 h1
  have l0 : 0 ≤ v.toInt := by simpa [BitVec.sle_iff_toInt_le] using h0
  have l1 : v.toInt < 128 := by simpa [BitVec.slt_iff_toInt_lt] using h1
  have l2 := BitVec.toInt_eq_toNat_cond v
  have l3 : v.toNat < 128 := by have := v.isLt; split at l2 <;> omega
  exact ⟨⟨v.toNat, l3⟩, by simp⟩

/-- Every gate is a real between −60 and 60. -/
theorem pre_gate (h : (Cert.Pre_in_range.fn (F := Ideal) xg x b wg bg wf bf wt bt).2.1 = fun _ => 1#1) (n : Fin 50000) :
    ∃ g : ℝ, gate x wg n = (g : EReal) ∧ -60 ≤ g ∧ g ≤ 60 := by
  have e := congrFun h (ix2 n 0)
  unfold Cert.Pre_in_range.fn Cert.Pre_in_range.fn_part1 at e
  dsimp only at e
  pointwise at e
  obtain ⟨h0, h1⟩ := of_andi e
  rw [decide_eq_true_eq, ofBits_neg60] at h0
  rw [decide_eq_true_eq, ofBits_60] at h1
  change ((-60 : ℝ) : EReal) ≤ gate x wg n at h0
  change gate x wg n ≤ ((60 : ℝ) : EReal) at h1
  generalize gate x wg n = v at h0 h1
  induction v using EReal.rec with
  | bot => exact absurd h0 (not_le.2 (EReal.bot_lt_coe _))
  | top => exact absurd h1 (not_le.2 (EReal.coe_lt_top _))
  | coe r => exact ⟨r, rfl, EReal.coe_le_coe_iff.1 h0, EReal.coe_le_coe_iff.1 h1⟩

/-- The disjunction of two decided words is one exactly where one of the decisions holds. -/
theorem of_ori {p q : Bool} (h : IntOp.ori (BitVec.ofBool p) (BitVec.ofBool q) = 1#1) : p = true ∨ q = true := by
  cases p <;> cases q <;> revert h <;> decide

/-- No graph's exponentials add up to less than the guard, save to zero. -/
theorem pre_total (h : (Cert.Pre_in_range.fn (F := Ideal) xg x b wg bg wf bf wt bt).2.2.1 = fun _ => 1#1) (j : Fin 128) :
    (tiny : EReal) ≤ (∑ n : Fin 50000, if b (ix1 n) = BitVec.ofNat 32 j.val then Ideal.exp (gate x wg n) else 0)
      ∨ (∑ n : Fin 50000, if b (ix1 n) = BitVec.ofNat 32 j.val then Ideal.exp (gate x wg n) else 0) = 0 := by
  have e := congrFun h (ix1 j)
  unfold Cert.Pre_in_range.fn Cert.Pre_in_range.fn_part1 Cert.Pre_in_range.fn_where at e
  dsimp only at e
  pointwise at e
  have z : id (constant (F := Ideal) Cert.Pre_in_range.S_ .f32 0#32) ix0 = (0 : EReal) := Ideal.ofBits_zero .f32
  simp only [select_eq_word, z, ofBits_tiny] at e
  exact (of_ori e).imp of_decide_eq_true of_decide_eq_true

/-- A value whose absolute value is below +∞ is real. -/
theorem real_of_abs {v : EReal} (h : max v (-v) < ⊤) : ∃ r : ℝ, v = (r : EReal) := by
  induction v using EReal.rec with
  | bot => simp at h
  | top => simp at h
  | coe r => exact ⟨r, rfl⟩

/-- The gate bias is real. -/
theorem pre_bg (h : (Cert.Pre_in_range.fn (F := Ideal) xg x b wg bg wf bf wt bt).2.2.2.1 = fun _ => 1#1) :
    ∃ r : ℝ, bg (ix1 0) = (r : EReal) := by
  have e := congrFun h (ix1 0)
  unfold Cert.Pre_in_range.fn Cert.Pre_in_range.fn_part1 at e
  dsimp only at e
  pointwise at e
  have e' := of_ofBool e
  rw [ofBits_inf] at e'
  exact real_of_abs e'

/-- The feature bias is zero. -/
theorem pre_bf (h : (Cert.Pre_in_range.fn (F := Ideal) xg x b wg bg wf bf wt bt).2.2.2.2.1 = fun _ => 1#1) (k : Fin 256) :
    bf (ix1 k) = 0 := by
  have e := congrFun h (ix1 k)
  unfold Cert.Pre_in_range.fn Cert.Pre_in_range.fn_part1 at e
  dsimp only at e
  pointwise at e
  exact of_ofBool e

/-- The output bias is zero. -/
theorem pre_bt (h : (Cert.Pre_in_range.fn (F := Ideal) xg x b wg bg wf bf wt bt).2.2.2.2.2 = fun _ => 1#1) (k : Fin 256) :
    bt (ix1 k) = 0 := by
  have e := congrFun h (ix1 k)
  unfold Cert.Pre_in_range.fn Cert.Pre_in_range.fn_part1 at e
  dsimp only at e
  pointwise at e
  exact of_ofBool e

end Cert.Pool

end
-- ==== Proof.RefDense.lean ====
/- What the reference's dense stages hold at an index. -/
module

public import proofs.«01_k».proof.Proof.Gen.ReferenceIdeal.Read
public import proofs.«01_k».proof.Proof.Model
public import proofs.«01_k».proof.Proof.Consts
public import Idealize.ShloMosaic.Lib.Pointwise
public import Idealize.ShloMosaic.Lib.Routing.OpsPair

@[expose] public section

set_option maxRecDepth 16384

noncomputable section

namespace Cert.Pool

open Idealize.ShloMosaic Idealize.ShloMosaic.Pointwise Cert.ReferenceIdeal Cert.ReferenceIdeal.Read

variable (xg : (⟨S128x256, .f32⟩ : BufTy).Contents (Elt Ideal)) (x : (⟨S50000x256, .f32⟩ : BufTy).Contents (Elt Ideal))
  (b : (⟨S50000, .i32⟩ : BufTy).Contents (Elt Ideal)) (wg : (⟨S1x256, .f32⟩ : BufTy).Contents (Elt Ideal))
  (bg : (⟨S1, .f32⟩ : BufTy).Contents (Elt Ideal)) (wf : (⟨S256x256, .f32⟩ : BufTy).Contents (Elt Ideal))
  (bf : (⟨S256, .f32⟩ : BufTy).Contents (Elt Ideal)) (wt : (⟨S256x512, .f32⟩ : BufTy).Contents (Elt Ideal))
  (bt : (⟨S256, .f32⟩ : BufTy).Contents (Elt Ideal))

/-- The reference's biased gate of a node. -/
theorem v4_eq (n : Fin 50000) : val_main_v4 x wg bg (ix2 n 0) = gate x wg n + bg (ix1 0) := by
  pointwise [val_main_v4, val_main_v3, val_main_v2, val_main_v1, val_main_v0]
  rfl

/-- The reference's rectified feature of a node. -/
theorem v14_eq (n : Fin 50000) (h : Fin 256) : val_main_v14 x wf bf (ix2 n h) = leaky (feat x wf n h + bf (ix1 h)) := by
  pointwise [val_main_v14, val_main_v13, val_main_v12, val_main_v11, val_main_v10, val_main_v9, val_main_v8, val_main_v7, val_main_v6, val_main_v5, val_main_cst, val_main_cst_0]
  rw [ofBits_slope]
  rfl

/-- The reference's maximum over a graph: the largest of the graph's biased gates, −∞ standing for every other node. -/
theorem v22_eq (j : Fin 128) : val_main_v22 x b wg bg (ix1 j)
    = Finset.univ.fold max ⊥ (fun n : Fin 50000 => if b (ix1 n) = BitVec.ofNat 32 j.val then gate x wg n + bg (ix1 0) else ⊥) := by
  pointwise [val_main_v22, val_main_v21, val_main_call1_v2, val_main_call1_v1, val_main_call1_v0, val_main_v20, val_main_v19, val_main_v18, val_main_v17, val_main_v16, val_main_v15, val_main_cst_1, val_main_cst_2]
  simp only [select_eq_word, v4_eq]
  have e : id (constant (F := Ideal) S_ .f32 4286578688#32) ix0 = (⊥ : EReal) := ofBits_neg_inf
  rw [e, ofBits_neg_inf]

/-- Where the reference's maximum is below +∞ in absolute value, the guarded maximum is the maximum. -/
theorem v27_eq (j : Fin 128) (r : ℝ) (h : val_main_v22 x b wg bg (ix1 j) = (r : EReal)) : val_main_v27 x b wg bg (ix2 j 0) = (r : EReal) := by
  have h23 : val_main_v23 x b wg bg (ix2 j 0) = (r : EReal) := by
    rw [val_main_v23_apply, ← h]
    exact congrArg (val_main_v22 x b wg bg) (eq_ix1 _)
  have h25 : val_main_v25 (F := Ideal) (ix2 j 0) = (⊤ : EReal) := by
    rw [val_main_v25_apply, val_main_cst_3_apply]
    exact ofBits_inf
  rw [val_main_v27_apply, val_main_v26_apply, val_main_v24_apply, h23, h25]
  have q : FloatOps.cmpf (F := Ideal) .olt (FloatOps.hostAbsf (F := Ideal) (φ := .f32) (r : EReal)) (⊤ : EReal) = 1#1 := by
    have hlt : max (r : EReal) (-(r : EReal)) < ⊤ := max_lt (EReal.coe_lt_top r) (by rw [← EReal.coe_neg]; exact EReal.coe_lt_top _)
    exact congrArg BitVec.ofBool (decide_eq_true hlt)
  rw [q]
  rfl

/-- The gathers' wrapped graph word: of a word that is not negative, the word. -/
theorem v33_eq (n : Fin 50000) (h : (b (ix1 n)).toNat < 2 ^ 31) : val_main_v33 (F := Ideal) b (ix2 n 0) = b (ix1 n) := by
  pointwise [val_main_v33, val_main_v32, val_main_v31, val_main_v30, val_main_v29, val_main_v28, val_main_c, val_main_c_5]
  exact Routing.wrap_of_lt _ _ h

/-- The same of the second gather. -/
theorem v45_eq (n : Fin 50000) (h : (b (ix1 n)).toNat < 2 ^ 31) : val_main_v45 (F := Ideal) b (ix2 n 0) = b (ix1 n) := by
  pointwise [val_main_v45, val_main_v44, val_main_v43, val_main_v42, val_main_v41, val_main_v40, val_main_c_7, val_main_c_8]
  exact Routing.wrap_of_lt _ _ h

/-- The first scatter's index word of a node is its graph word. -/
theorem v38_eq (n : Fin 50000) : val_main_v38 (F := Ideal) b (ix2 n 0) = b (ix1 n) := by
  pointwise [val_main_v38]

/-- The second scatter's index word of a node is its graph word. -/
theorem v53_eq (n : Fin 50000) : val_main_v53 (F := Ideal) b (ix2 n 0) = b (ix1 n) := by
  pointwise [val_main_v53]

/-- The first scatter adds to zero. -/
theorem v37_eq (j : Fin 128) : val_main_v37 (F := Ideal) (ix2 j 0) = (0 : EReal) := by
  pointwise [val_main_v37, val_main_cst_6]

/-- The second scatter adds to zero. -/
theorem v52_eq (j : Fin 128) (h : Fin 256) : val_main_v52 (F := Ideal) (ix2 j h) = (0 : EReal) := by
  pointwise [val_main_v52, val_main_cst_10]

/-- The reference's result over the pooled features. -/
theorem v66_eq (j : Fin 128) (h : Fin 256) : val_main_v66 xg x b wg bg wf bf wt bt (ix2 j h)
    = leaky ((∑ k : Fin 256, val_main_v54 x b wg bg wf bf (ix2 j k) * wt (ix2 h (lcol k))) + (∑ k : Fin 256, xg (ix2 j k) * wt (ix2 h (rcol k))) + bt (ix1 h))
      + xg (ix2 j h) := by
  pointwise [val_main_v66, val_main_v65, val_main_v64, val_main_v63, val_main_v62, val_main_v61, val_main_v60, val_main_v59, val_main_v58, val_main_v57, val_main_v56, val_main_v55, val_main_cst_11, val_main_cst_12]
  rw [ofBits_slope]
  rfl

end Cert.Pool

end
-- ==== Proof.RowOps.lean ====
/- An accumulating scatter of rows, each sent to the row its index word names, read at an entry. Nothing here names a program. -/
module

public import Idealize.ShloMosaic.Lib.Routing.OpsPair
public import Idealize.ShloMosaic.PureOps.Ideal

@[expose] public section

namespace Cert.Pool

open Idealize.ShloMosaic Idealize.ShloMosaic.ValueIdx Idealize.ShloMosaic.Routing

variable {R C N w : Nat} (d : ScatterDims (shape2 R C) (shape2 N 1) (shape2 N C))

/-- Row `n`'s update at column `c` lands at row `r`, column `c'` exactly when row `n`'s index word, read signed, is `r` and the columns agree. -/
theorem row_lands (huw : d.updateWindowDims = [1]) (hiw : d.insertedWindowDims = [0]) (hsd : d.scatterDimsToOperandDims = [0])
    (hivd : d.indexVectorDim = 1) (idx : IVec (shape2 N 1) w) (n : Fin N) (c : Fin C) (r : Fin R) (c' : Fin C) :
    d.resultIdx? (ix2 n c) idx = some (ix2 r c') ↔ (idx (ix2 n (0 : Fin 1))).toInt = (r.val : Int) ∧ c = c' := by
  obtain ⟨uw, iw, sd, iv, wf⟩ := d
  dsimp only at huw hiw hsd hivd
  subst huw hiw hsd hivd
  have hstart : ScatterDims.start ⟨[1], [0], [0], 1, wf⟩ (ix2 n c) idx 0 = (idx (ix2 n (0 : Fin 1))).toInt := by
    unfold ScatterDims.start
    rw [dif_pos (List.mem_singleton.2 rfl)]
    refine congrArg (fun t => (idx t).toInt) (funext fun a => ?_)
    match a with
    | ⟨0, _⟩ => rfl
    | ⟨1, _⟩ => exact Subsingleton.elim (α := Fin 1) _ _
  rw [resultIdx?_ix2, hstart]
  have h1 : ScatterDims.start ⟨[1], [0], [0], 1, wf⟩ (ix2 n c) idx 1 = 0 := rfl
  have h2 : ScatterDims.window ⟨[1], [0], [0], 1, wf⟩ (ix2 n c) 0 = 0 := rfl
  have h3 : ScatterDims.window ⟨[1], [0], [0], 1, wf⟩ (ix2 n c) 1 = c.val := rfl
  rw [h1, h2, h3, Fin.ext_iff]
  omega

/-- The accumulating scatter of rows at row `r`, column `c`: what was there and the sum of the updates at column `c` of the rows whose index word, read signed, is `r`. -/
theorem scatter_rows (huw : d.updateWindowDims = [1]) (hiw : d.insertedWindowDims = [0]) (hsd : d.scatterDimsToOperandDims = [0])
    (hivd : d.indexVectorDim = 1) (x : (shape2 R C).Idx → EReal) (idx : IVec (shape2 N 1) w) (upd : (shape2 N C).Idx → EReal)
    (r : Fin R) (c : Fin C) :
    Ideal.hostScatterAdd d x idx upd (ix2 r c)
      = x (ix2 r c) + ∑ n ∈ Finset.univ.filter (fun n : Fin N => (idx (ix2 n (0 : Fin 1))).toInt = (r.val : Int)), upd (ix2 n c) := by
  unfold Ideal.hostScatterAdd
  refine congrArg (x (ix2 r c) + ·) ?_
  have lands : ∀ k : (shape2 N C).Idx, d.resultIdx? k idx = some (ix2 r c) →
      (idx (ix2 (k 0) (0 : Fin 1))).toInt = (r.val : Int) ∧ k = ix2 (k 0) c := by
    intro k hk
    have e := eq_ix2 k
    rw [e] at hk
    have q := (row_lands d huw hiw hsd hivd idx _ _ r c).1 hk
    exact ⟨q.1, e.trans (congrArg (ix2 (k 0)) q.2)⟩
  refine Finset.sum_nbij' (fun k => k 0) (fun n => ix2 n c) ?_ ?_ ?_ ?_ ?_
  · intro k hk
    exact Finset.mem_filter.2 ⟨Finset.mem_univ _, (lands k (Finset.mem_filter.1 hk).2).1⟩
  · intro n hn
    exact Finset.mem_filter.2 ⟨Finset.mem_univ _, (row_lands d huw hiw hsd hivd idx n c r c).2 ⟨(Finset.mem_filter.1 hn).2, rfl⟩⟩
  · intro k hk
    exact (lands k (Finset.mem_filter.1 hk).2).2.symm
  · intro n _
    rfl
  · intro k hk
    exact congrArg upd (lands k (Finset.mem_filter.1 hk).2).2

end Cert.Pool
-- ==== Proof.RefPool.lean ====
/- What the reference's attention pooling holds at an index, the nodes' graphs given. -/
module

public import proofs.«01_k».proof.Proof.RefDense
public import proofs.«01_k».proof.Proof.RowOps
public import Idealize.ShloMosaic.Lib.Routing.Ops

@[expose] public section

set_option maxRecDepth 16384

noncomputable section

namespace Cert.Pool

open Idealize.ShloMosaic Idealize.ShloMosaic.Pointwise Cert.ReferenceIdeal Cert.ReferenceIdeal.Read

/-- The nodes of graph `j`. -/
def members (gr : Fin 50000 → Fin 128) (j : Fin 128) : Finset (Fin 50000) := Finset.univ.filter fun n => gr n = j

theorem mem_members (gr : Fin 50000 → Fin 128) (j : Fin 128) (n : Fin 50000) : n ∈ members gr j ↔ gr n = j := by
  simp [members]

variable (x : (⟨S50000x256, .f32⟩ : BufTy).Contents (Elt Ideal))
  (b : (⟨S50000, .i32⟩ : BufTy).Contents (Elt Ideal)) (wg : (⟨S1x256, .f32⟩ : BufTy).Contents (Elt Ideal))
  (bg : (⟨S1, .f32⟩ : BufTy).Contents (Elt Ideal)) (wf : (⟨S256x256, .f32⟩ : BufTy).Contents (Elt Ideal))
  (bf : (⟨S256, .f32⟩ : BufTy).Contents (Elt Ideal))
variable (gr : Fin 50000 → Fin 128) (hgr : ∀ n, b (ix1 n) = BitVec.ofNat 32 (gr n).val)

include hgr

/-- A graph word read signed is `j` exactly where the node's graph is `j`. -/
theorem word_eq (n : Fin 50000) (j : Fin 128) : (b (ix1 n)).toInt = (j.val : Int) ↔ gr n = j := by
  have h := (gr n).isLt
  have e : (b (ix1 n)).toInt = ((gr n).val : Int) :=
    (congrArg BitVec.toInt (hgr n)).trans (StableHlo.Predicate.toInt_ofNat_small _ (by omega))
  rw [e, Fin.ext_iff]
  omega

/-- A graph word is below 2³¹. -/
theorem word_lt (n : Fin 50000) : (b (ix1 n)).toNat < 2 ^ 31 := by
  have h := (gr n).isLt
  rw [hgr n, BitVec.toNat_ofNat]
  omega

/-- The first gather brings each node its graph's guarded maximum. -/
theorem v34_eq (n : Fin 50000) : val_main_v34 x b wg bg (ix2 n 0) = val_main_v27 x b wg bg (ix2 (gr n) 0) := by
  unfold val_main_v34
  rw [ix2_eq_valueIdx, ix2_eq_valueIdx]
  exact Routing.gather_row _ rfl rfl rfl rfl rfl _ _ n 0 (gr n)
    (by rw [← ix2_eq_valueIdx, v33_eq b n (word_lt b gr hgr n)]; exact hgr n) (by decide)

/-- A node's exponential, shifted by its graph's guarded maximum. -/
theorem v36_eq (n : Fin 50000) : val_main_v36 x b wg bg (ix2 n 0)
    = Ideal.exp ((gate x wg n + bg (ix1 0)) - val_main_v27 x b wg bg (ix2 (gr n) 0)) := by
  rw [val_main_v36_apply, val_main_v35_apply, v4_eq, v34_eq x b wg bg gr hgr]
  rfl

/-- The first scatter: a graph's sum of its nodes' exponentials. -/
theorem v39_eq (j : Fin 128) : val_main_v39 x b wg bg (ix2 j 0)
    = ∑ n ∈ members gr j, Ideal.exp ((gate x wg n + bg (ix1 0)) - val_main_v27 x b wg bg (ix2 j 0)) := by
  unfold val_main_v39
  have e := scatter_rows scatter_S128x1_S50000x1_S50000x1_1_0_0_1 rfl rfl rfl rfl (val_main_v37 (F := Ideal)) (val_main_v38 (F := Ideal) b)
    (val_main_v36 x b wg bg) j 0
  simp only [← ix2_eq_valueIdx] at e
  refine Eq.trans e ?_
  rw [v37_eq, zero_add]
  refine Finset.sum_congr (Finset.filter_congr fun n _ => ?_) fun n hn => ?_
  · rw [v38_eq]; exact word_eq b gr hgr n j
  · rw [v36_eq x b wg bg gr hgr, (mem_members gr j n).1 hn]

/-- The second gather brings each node its graph's sum. -/
theorem v46_eq (n : Fin 50000) : val_main_v46 x b wg bg (ix2 n 0) = val_main_v39 x b wg bg (ix2 (gr n) 0) := by
  unfold val_main_v46
  rw [ix2_eq_valueIdx, ix2_eq_valueIdx]
  exact Routing.gather_row _ rfl rfl rfl rfl rfl _ _ n 0 (gr n)
    (by rw [← ix2_eq_valueIdx, v45_eq b n (word_lt b gr hgr n)]; exact hgr n) (by decide)

/-- A node's update of the second scatter: its attention times its rectified feature. -/
theorem v51_eq (n : Fin 50000) (h : Fin 256) : val_main_v51 x b wg bg wf bf (ix2 n h)
    = Ideal.div (val_main_v36 x b wg bg (ix2 n 0)) (max (val_main_v39 x b wg bg (ix2 (gr n) 0)) (tiny : EReal))
      * leaky (feat x wf n h + bf (ix1 h)) := by
  have e50 : val_main_v50 x b wg bg (ix2 n h) = val_main_v49 x b wg bg (ix2 n 0) := by
    rw [val_main_v50_apply]
    exact congrArg (val_main_v49 x b wg bg) (eq_ix2 _)
  have e47 : val_main_v47 (F := Ideal) (ix2 n 0) = (tiny : EReal) := by
    rw [val_main_v47_apply, val_main_cst_9_apply]
    exact ofBits_tiny
  rw [val_main_v51_apply, v14_eq, e50, val_main_v49_apply, val_main_v48_apply, e47, v46_eq x b wg bg gr hgr]
  rfl

/-- The second scatter: a graph's attention-weighted sum of its nodes' rectified features. -/
theorem v54_eq (j : Fin 128) (h : Fin 256) : val_main_v54 x b wg bg wf bf (ix2 j h)
    = ∑ n ∈ members gr j, Ideal.div (Ideal.exp ((gate x wg n + bg (ix1 0)) - val_main_v27 x b wg bg (ix2 j 0)))
        (max (∑ k ∈ members gr j, Ideal.exp ((gate x wg k + bg (ix1 0)) - val_main_v27 x b wg bg (ix2 j 0))) (tiny : EReal))
      * leaky (feat x wf n h + bf (ix1 h)) := by
  unfold val_main_v54
  have e := scatter_rows scatter_S128x256_S50000x1_S50000x256_1_0_0_1 rfl rfl rfl rfl (val_main_v52 (F := Ideal)) (val_main_v53 (F := Ideal) b)
    (val_main_v51 x b wg bg wf bf) j h
  simp only [← ix2_eq_valueIdx] at e
  refine Eq.trans e ?_
  rw [v52_eq, zero_add]
  refine Finset.sum_congr (Finset.filter_congr fun n _ => ?_) fun n hn => ?_
  · rw [v53_eq]; exact word_eq b gr hgr n j
  · rw [v51_eq x b wg bg wf bf gr hgr, v36_eq x b wg bg gr hgr, (mem_members gr j n).1 hn, v39_eq x b wg bg gr hgr]

end Cert.Pool

end
-- ==== Proof.Equation.lean ====
/- The equation: where the graph words name graphs, the gates lie between −60 and 60, no graph's exponentials add up to
   less than the guard save to zero, the gate's bias is real and the two other biases are
   zero, the reference's result is the kernel's formula. -/
module

public import proofs.«01_k».proof.Proof.RefPool
public import proofs.«01_k».proof.Proof.Math

@[expose] public section

set_option maxRecDepth 16384

noncomputable section

namespace Cert.Pool

open Idealize.ShloMosaic Idealize.ShloMosaic.Pointwise Cert.ReferenceIdeal Cert.ReferenceIdeal.Read

/-- The low sixteen bits of a graph's word are those of `j` exactly where the graph is `j`. -/
theorem low_eq (k j : Fin 128) : BitVec.setWidth 16 (BitVec.ofNat 32 k.val) = BitVec.ofNat 16 j.val ↔ k = j := by
  have hk := k.isLt
  have hj := j.isLt
  constructor
  · intro h
    have e := congrArg BitVec.toNat h
    simp only [BitVec.toNat_setWidth, BitVec.toNat_ofNat] at e
    exact Fin.ext (by omega)
  · rintro rfl
    apply BitVec.eq_of_toNat_eq
    simp only [BitVec.toNat_setWidth, BitVec.toNat_ofNat]
    omega

/-- The word of a graph is that of `j` exactly where the graph is `j`. -/
theorem word32_eq (k j : Fin 128) : BitVec.ofNat 32 k.val = BitVec.ofNat 32 j.val ↔ k = j := by
  have hk := k.isLt
  have hj := j.isLt
  refine ⟨fun h => ?_, fun h => by rw [h]⟩
  have e := congrArg BitVec.toNat h
  simp only [BitVec.toNat_ofNat] at e
  exact Fin.ext (by omega)

/-- The clip changes no gate between −60 and 60. -/
theorem weight_eq (g : ℝ) (h0 : -60 ≤ g) (h1 : g ≤ 60) : weight (g : EReal) = Ideal.exp (g : EReal) := by
  unfold weight
  rw [max_eq_right (EReal.coe_le_coe_iff.2 (by linarith)), min_eq_right (EReal.coe_le_coe_iff.2 h1)]

variable (xg : (⟨S128x256, .f32⟩ : BufTy).Contents (Elt Ideal)) (x : (⟨S50000x256, .f32⟩ : BufTy).Contents (Elt Ideal))
  (b : (⟨S50000, .i32⟩ : BufTy).Contents (Elt Ideal)) (wg : (⟨S1x256, .f32⟩ : BufTy).Contents (Elt Ideal))
  (bg : (⟨S1, .f32⟩ : BufTy).Contents (Elt Ideal)) (wf : (⟨S256x256, .f32⟩ : BufTy).Contents (Elt Ideal))
  (bf : (⟨S256, .f32⟩ : BufTy).Contents (Elt Ideal)) (wt : (⟨S256x512, .f32⟩ : BufTy).Contents (Elt Ideal))
  (bt : (⟨S256, .f32⟩ : BufTy).Contents (Elt Ideal))
variable (gr : Fin 50000 → Fin 128) (hgr : ∀ n, b (ix1 n) = BitVec.ofNat 32 (gr n).val)
variable (g : Fin 50000 → ℝ) (hg : ∀ n, gate x wg n = (g n : EReal)) (hlo : ∀ n, -60 ≤ g n) (hhi : ∀ n, g n ≤ 60)
variable (htot : ∀ j : Fin 128, (tiny : EReal) ≤ (∑ n : Fin 50000, if b (ix1 n) = BitVec.ofNat 32 j.val then Ideal.exp (gate x wg n) else 0)
  ∨ (∑ n : Fin 50000, if b (ix1 n) = BitVec.ofNat 32 j.val then Ideal.exp (gate x wg n) else 0) = 0)
variable (r : ℝ) (hr : bg (ix1 0) = (r : EReal))

section Kernel
include hgr hg hlo hhi

/-- The kernel's cell: the node's exponential where the node is of the graph, else zero. -/
theorem cell_eq (j : Fin 128) (n : Fin 50000) : cell x b wg j n = if gr n = j then Ideal.exp (g n : EReal) else 0 := by
  unfold cell
  rw [hg n, weight_eq _ (hlo n) (hhi n)]
  refine if_congr ?_ rfl rfl
  exact (Eq.congr_left (congrArg (BitVec.setWidth 16) (hgr n))).trans (low_eq (gr n) j)

/-- The kernel's denominator: the sum of the graph's exponentials. -/
theorem den_eq (j : Fin 128) : den x b wg j = ∑ n ∈ members gr j, Ideal.exp (g n : EReal) := by
  unfold den members
  rw [Finset.sum_filter]
  exact Finset.sum_congr rfl fun n _ => cell_eq x b wg gr hgr g hg hlo hhi j n

/-- The kernel's numerator: the graph's sum of exponentials times rectified features. -/
theorem num_eq (j : Fin 128) (h : Fin 256) : num x b wg wf j h = ∑ n ∈ members gr j, Ideal.exp (g n : EReal) * leaky (feat x wf n h) := by
  unfold num members
  rw [Finset.sum_filter]
  refine Finset.sum_congr rfl fun n _ => ?_
  rw [cell_eq x b wg gr hgr g hg hlo hhi j n]
  split
  · rfl
  · exact zero_mul _

end Kernel

include hgr hg htot in
/-- The exponentials of a graph that has a node add up to the guard or more. -/
theorem total_ge (j : Fin 128) (hne : (members gr j).Nonempty) : tiny ≤ ∑ n ∈ members gr j, Real.exp (g n) := by
  have hs : (∑ n : Fin 50000, if b (ix1 n) = BitVec.ofNat 32 j.val then Ideal.exp (gate x wg n) else 0)
      = ((∑ n ∈ members gr j, Real.exp (g n) : ℝ) : EReal) := by
    rw [← coe_sum']
    unfold members
    rw [Finset.sum_filter]
    refine Finset.sum_congr rfl fun n _ => ?_
    rw [hg n, Ideal.exp_coe]
    exact if_congr ((Eq.congr_left (hgr n)).trans (word32_eq (gr n) j)) rfl rfl
  have h := htot j
  rw [hs] at h
  rcases h with h | h
  · exact EReal.coe_le_coe_iff.1 h
  · exact absurd (EReal.coe_eq_zero.1 h) (Finset.sum_pos (fun n _ => Real.exp_pos (g n)) hne).ne'

section Reference
include hgr hg hr

/-- A graph's maximum, where the graph has a node, is one of its nodes' biased gates. -/
theorem max_attained (j : Fin 128) (hne : (members gr j).Nonempty) :
    ∃ n0 ∈ members gr j, val_main_v27 x b wg bg (ix2 j 0) = ((g n0 + r : ℝ) : EReal) := by
  obtain ⟨n1, hn1⟩ := hne
  have hf : ∀ n, (if b (ix1 n) = BitVec.ofNat 32 j.val then gate x wg n + bg (ix1 0) else ⊥)
      = if gr n = j then ((g n + r : ℝ) : EReal) else ⊥ := by
    intro n
    rw [hg n, hr, EReal.coe_add]
    exact if_congr ((Eq.congr_left (hgr n)).trans (word32_eq (gr n) j)) rfl rfl
  have hs : val_main_v22 x b wg bg (ix1 j) = Finset.univ.sup (fun n : Fin 50000 => if gr n = j then ((g n + r : ℝ) : EReal) else ⊥) := by
    rw [v22_eq]
    exact congrArg (fun f => Finset.univ.fold max ⊥ f) (funext hf)
  obtain ⟨n0, _, h0⟩ := Finset.exists_mem_eq_sup (Finset.univ : Finset (Fin 50000)) ⟨n1, Finset.mem_univ _⟩
    (fun n : Fin 50000 => if gr n = j then ((g n + r : ℝ) : EReal) else ⊥)
  have hge := Finset.le_sup (f := fun n : Fin 50000 => if gr n = j then ((g n + r : ℝ) : EReal) else ⊥) (Finset.mem_univ n1)
  rw [h0] at hge hs
  dsimp only at hge hs
  rw [if_pos ((mem_members gr j n1).1 hn1)] at hge
  by_cases hj : gr n0 = j
  · rw [if_pos hj] at hs
    exact ⟨n0, (mem_members gr j n0).2 hj, v27_eq x b wg bg j _ hs⟩
  · rw [if_neg hj] at hge
    exact absurd hge (not_le.2 (EReal.bot_lt_coe _))

end Reference

include hgr hg hlo hhi htot hr in
/-- The pooled feature: the reference's is the kernel's numerator over its guarded denominator. -/
theorem pooled_eq (hbf : ∀ k, bf (ix1 k) = (0 : EReal)) (j : Fin 128) (h : Fin 256) : val_main_v54 x b wg bg wf bf (ix2 j h)
    = num x b wg wf j h * Ideal.div 1 (max (den x b wg j) (tiny : EReal)) := by
  rw [v54_eq x b wg bg wf bf gr hgr, num_eq x b wg wf gr hgr g hg hlo hhi, den_eq x b wg gr hgr g hg hlo hhi]
  have hb : ∀ n, leaky (feat x wf n h + bf (ix1 h)) = leaky (feat x wf n h) := fun n => by rw [hbf h, add_zero]
  simp only [hb, hg, hr]
  exact pool_eq (members gr j) g r (fun n => leaky (feat x wf n h)) _ (total_ge x b wg gr hgr g hg htot j)
    (max_attained x b wg bg gr hgr g hg r hr j)

include hgr hg hlo hhi htot hr in
/-- The reference's result at an index is the kernel's formula there. -/
theorem reference_result (hbf : ∀ k, bf (ix1 k) = (0 : EReal)) (hbt : ∀ k, bt (ix1 k) = (0 : EReal)) (j : Fin 128) (h : Fin 256) :
    val_main_v66 xg x b wg bg wf bf wt bt (ix2 j h) = result xg x b wg wf wt j h := by
  rw [v66_eq, hbt h, add_zero]
  unfold result
  simp only [pooled_eq x b wg bg wf bf gr hgr g hg hlo hhi htot r hr hbf]

end Cert.Pool

end
-- ==== Proof.lean ====
/- The five claims of the attention pooling kernel, put together from the modules under `Proof/`. -/
module

public import proofs.«01_k».proof.Defs
public import proofs.«01_k».proof.Proof.Gen.Pre_in_range
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Fold
public import proofs.«01_k».proof.Proof.Pre
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs from any memory, keeps its arguments and leaves its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named words are the slope. -/
theorem preserves_Kernel_KernelIdeal : preserves_Kernel_KernelIdeal :=
  ⟨IdealRules.named_const.statement Cert.KernelIdeal.κ "slope" .bf16 0x3C24#16 ((5368709 / 536870912 : ℝ) : EReal) rfl,
   IdealRules.named_const.statement Cert.KernelIdeal.κ "slope" .f32 0x3C23D70A#32 ((5368709 / 536870912 : ℝ) : EReal) rfl⟩

/-- Under the precondition the reference's stages over a core's arguments make the array the kernel leaves there. -/
theorem result_eq (m : (ℓ : Loc Cert.KernelIdeal.nD Cert.KernelIdeal.τ Cert.KernelIdeal.sig) → Buf (Elt Ideal) ℓ)
    (hpre : Pre_KernelIdeal_in_range m) (c : Dev Cert.KernelIdeal.nD) :
    Cert.ReferenceIdeal.Read.val_main_v66 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Value.G7 m c := by
  obtain ⟨p0, p1, pt, p2, p3, p4⟩ := hpre c
  choose gr hgr using Cert.Pool.pre_batch _ _ _ _ _ _ _ _ _ p0
  choose g hg using Cert.Pool.pre_gate _ _ _ _ _ _ _ _ _ p1
  obtain ⟨r, hr⟩ := Cert.Pool.pre_bg _ _ _ _ _ _ _ _ _ p2
  funext i
  rw [eq_ix2 i]
  exact (Cert.Pool.reference_result _ _ _ _ _ _ _ _ _ gr hgr g (fun n => (hg n).1) (fun n => (hg n).2.1) (fun n => (hg n).2.2)
    (Cert.Pool.pre_total _ _ _ _ _ _ _ _ _ pt) r hr
    (Cert.Pool.pre_bf _ _ _ _ _ _ _ _ _ p3) (Cert.Pool.pre_bt _ _ _ _ _ _ _ _ _ p4) (i 0) (i 1)).trans
    (Cert.Pool.kernel_result m c (i 0) (i 1)).symm

/-- From memories that agree on the arguments, under the precondition, the kernel and the reference end with equal results. -/
theorem algebraic_KernelIdeal_ReferenceIdeal : algebraic_KernelIdeal_ReferenceIdeal_pre_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v66_eq m' c]
  obtain ⟨a0, a1, a2, a3, a4, a5, a6, a7, a8⟩ := hagree c
  rw [a0, a1, a2, a3, a4, a5, a6, a7, a8]
  exact result_eq m hpre c

/-- The certificate: the five claims. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial, preserves_Kernel_KernelIdeal,
    algebraic_KernelIdeal_ReferenceIdeal⟩

end Cert.Proof

end
